-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x200x5 : Shape := ⟨3, ![4096, 200, 5]⟩
abbrev S16x200x3 : Shape := ⟨3, ![16, 200, 3]⟩
abbrev S16 : Shape := ⟨1, ![16]⟩
abbrev S_ : Shape := ⟨0, ![]⟩

class Facts : Prop where
  bcast_S_S4096x200x5 : S_.BroadcastsInDim S4096x200x5 (![] : Fin 0 → Fin S4096x200x5.rank)
  bcast_S_S16x200x3 : S_.BroadcastsInDim S16x200x3 (![] : Fin 0 → Fin S16x200x3.rank)

variable [Facts]

def fn {F : FTy → Type} [FloatOps F] (main_arg0 : IVec S4096x200x5 32) (main_arg1 : FVec F S16x200x3 .f32) (main_arg2 : FVec F S16 .f32) : IVec S4096x200x5 1 × IVec S16x200x3 1 :=
  let main_c : IVec S_ 32 := constantI S_ 32 0#32
  let main_v0 : IVec S4096x200x5 32 := broadcastInDim S4096x200x5 ![] bcast_S_S4096x200x5 main_c
  let main_v1 : IVec S4096x200x5 1 := cmpi .sge main_arg0 main_v0
  let main_c_0 : IVec S_ 32 := constantI S_ 32 4#32
  let main_v2 : IVec S4096x200x5 32 := broadcastInDim S4096x200x5 ![] bcast_S_S4096x200x5 main_c_0
  let main_v3 : IVec S4096x200x5 1 := cmpi .slt main_arg0 main_v2
  let main_v4 : IVec S4096x200x5 1 := andi main_v1 main_v3
  let main_v5 : FVec F S16x200x3 .f32 := Host.absf main_arg1
  let main_cst : FVec F S_ .f32 := constant S_ .f32 0x7F800000#32
  let main_v6 : FVec F S16x200x3 .f32 := broadcastInDim S16x200x3 ![] bcast_S_S16x200x3 main_cst
  let main_v7 : IVec S16x200x3 1 := cmpf .olt main_v5 main_v6
  (main_v4, main_v7)
-- ==== Kernel.lean ====
abbrev S4096x200x5 : Shape := ⟨3, ![4096, 200, 5]⟩
abbrev S16x200x3 : Shape := ⟨3, ![16, 200, 3]⟩
abbrev S16 : Shape := ⟨1, ![16]⟩
abbrev S4x66 : Shape := ⟨2, ![4, 66]⟩
abbrev S4x4 : Shape := ⟨2, ![4, 4]⟩
abbrev S819200x5 : Shape := ⟨2, ![819200, 5]⟩
abbrev S3x16x200 : Shape := ⟨3, ![3, 16, 200]⟩
abbrev S48x200 : Shape := ⟨2, ![48, 200]⟩
abbrev S4x4x1 : Shape := ⟨3, ![4, 4, 1]⟩
abbrev S1x4x66 : Shape := ⟨3, ![1, 4, 66]⟩
abbrev S4x4x66 : Shape := ⟨3, ![4, 4, 66]⟩
abbrev S_ : Shape := ⟨0, ![]⟩
abbrev S1x66 : Shape := ⟨2, ![1, 66]⟩
abbrev S1x1x1x66 : Shape := ⟨4, ![1, 1, 1, 66]⟩
abbrev S5x1x1x66 : Shape := ⟨4, ![5, 1, 1, 66]⟩
abbrev S5x66 : Shape := ⟨2, ![5, 66]⟩
abbrev S15x66 : Shape := ⟨2, ![15, 66]⟩
abbrev S66 : Shape := ⟨1, ![66]⟩
abbrev S16x3 : Shape := ⟨2, ![16, 3]⟩
abbrev S16x1 : Shape := ⟨2, ![16, 1]⟩
abbrev S64 : Shape := ⟨1, ![64]⟩
abbrev S1x64 : Shape := ⟨2, ![1, 64]⟩
abbrev S16x64 : Shape := ⟨2, ![16, 64]⟩
abbrev S4096x16x64 : Shape := ⟨3, ![4096, 16, 64]⟩
abbrev S12800x5 : Shape := ⟨2, ![12800, 5]⟩
abbrev S64x16x64 : Shape := ⟨3, ![64, 16, 64]⟩
abbrev S5x12800 : Shape := ⟨2, ![5, 12800]⟩
abbrev S15x12800 : Shape := ⟨2, ![15, 12800]⟩
abbrev S12800x66 : Shape := ⟨2, ![12800, 66]⟩
abbrev S200x66 : Shape := ⟨2, ![200, 66]⟩
abbrev S48x66 : Shape := ⟨2, ![48, 66]⟩
abbrev S1x16x64 : Shape := ⟨3, ![1, 16, 64]⟩

abbrev nBuf : Space → Nat
  | .hbm => 66
  | .vmem => 7
  | .smem => 0
  | _ => 0

abbrev bufTy : (tb : Table) → Fin (tcTables nBuf tb) → BufTy
  | .hbm, ⟨0, _⟩ => ⟨S4096x200x5, .i32⟩
  | .hbm, ⟨1, _⟩ => ⟨S16x200x3, .f32⟩
  | .hbm, ⟨2, _⟩ => ⟨S16, .f32⟩
  | .hbm, ⟨3, _⟩ => ⟨S4x66, .f32⟩
  | .hbm, ⟨4, _⟩ => ⟨S4x4, .f32⟩
  | .hbm, ⟨5, _⟩ => ⟨S819200x5, .i32⟩
  | .hbm, ⟨6, _⟩ => ⟨S3x16x200, .f32⟩
  | .hbm, ⟨7, _⟩ => ⟨S48x200, .f32⟩
  | .hbm, ⟨8, _⟩ => ⟨S4x4x1, .f32⟩
  | .hbm, ⟨9, _⟩ => ⟨S1x4x66, .f32⟩
  | .hbm, ⟨10, _⟩ => ⟨S4x4x66, .f32⟩
  | .hbm, ⟨11, _⟩ => ⟨S4x4x66, .f32⟩
  | .hbm, ⟨12, _⟩ => ⟨S4x4x66, .f32⟩
  | .hbm, ⟨13, _⟩ => ⟨S_, .f32⟩
  | .hbm, ⟨14, _⟩ => ⟨S4x66, .f32⟩
  | .hbm, ⟨15, _⟩ => ⟨S_, .f32⟩
  | .hbm, ⟨16, _⟩ => ⟨S4x66, .f32⟩
  | .hbm, ⟨17, _⟩ => ⟨S4x66, .f32⟩
  | .hbm, ⟨18, _⟩ => ⟨S1x66, .f32⟩
  | .hbm, ⟨19, _⟩ => ⟨S1x1x1x66, .f32⟩
  | .hbm, ⟨20, _⟩ => ⟨S5x1x1x66, .f32⟩
  | .hbm, ⟨21, _⟩ => ⟨S5x66, .f32⟩
  | .hbm, ⟨22, _⟩ => ⟨S1x66, .f32⟩
  | .hbm, ⟨23, _⟩ => ⟨S1x1x1x66, .f32⟩
  | .hbm, ⟨24, _⟩ => ⟨S5x1x1x66, .f32⟩
  | .hbm, ⟨25, _⟩ => ⟨S5x66, .f32⟩
  | .hbm, ⟨26, _⟩ => ⟨S1x66, .f32⟩
  | .hbm, ⟨27, _⟩ => ⟨S1x1x1x66, .f32⟩
  | .hbm, ⟨28, _⟩ => ⟨S5x1x1x66, .f32⟩
  | .hbm, ⟨29, _⟩ => ⟨S5x66, .f32⟩
  | .hbm, ⟨30, _⟩ => ⟨S15x66, .f32⟩
  | .hbm, ⟨31, _⟩ => ⟨S15x66, .bf16⟩
  | .hbm, ⟨32, _⟩ => ⟨S1x66, .f32⟩
  | .hbm, ⟨33, _⟩ => ⟨S66, .f32⟩
  | .hbm, ⟨34, _⟩ => ⟨S_, .f32⟩
  | .hbm, ⟨35, _⟩ => ⟨S66, .f32⟩
  | .hbm, ⟨36, _⟩ => ⟨S66, .f32⟩
  | .hbm, ⟨37, _⟩ => ⟨S_, .f32⟩
  | .hbm, ⟨38, _⟩ => ⟨S16x3, .f32⟩
  | .hbm, ⟨39, _⟩ => ⟨S16x1, .f32⟩
  | .hbm, ⟨40, _⟩ => ⟨S16x1, .f32⟩
  | .hbm, ⟨41, _⟩ => ⟨S64, .f32⟩
  | .hbm, ⟨42, _⟩ => ⟨S1x64, .f32⟩
  | .hbm, ⟨43, _⟩ => ⟨S16x64, .f32⟩
  | .hbm, ⟨44, _⟩ => ⟨S16x64, .f32⟩
  | .hbm, ⟨45, _⟩ => ⟨S16x64, .f32⟩
  | .hbm, ⟨46, _⟩ => ⟨S_, .f32⟩
  | .hbm, ⟨47, _⟩ => ⟨S16x64, .f32⟩
  | .hbm, ⟨48, _⟩ => ⟨S16x64, .f32⟩
  | .hbm, ⟨49, _⟩ => ⟨S16x1, .f32⟩
  | .hbm, ⟨50, _⟩ => ⟨S64, .f32⟩
  | .hbm, ⟨51, _⟩ => ⟨S1x64, .f32⟩
  | .hbm, ⟨52, _⟩ => ⟨S16x64, .f32⟩
  | .hbm, ⟨53, _⟩ => ⟨S16x64, .f32⟩
  | .hbm, ⟨54, _⟩ => ⟨S16x64, .f32⟩
  | .hbm, ⟨55, _⟩ => ⟨S16x64, .f32⟩
  | .hbm, ⟨56, _⟩ => ⟨S16x1, .f32⟩
  | .hbm, ⟨57, _⟩ => ⟨S64, .f32⟩
  | .hbm, ⟨58, _⟩ => ⟨S1x64, .f32⟩
  | .hbm, ⟨59, _⟩ => ⟨S16x64, .f32⟩
  | .hbm, ⟨60, _⟩ => ⟨S16x64, .f32⟩
  | .hbm, ⟨61, _⟩ => ⟨S16x64, .f32⟩
  | .hbm, ⟨62, _⟩ => ⟨S16x64, .f32⟩
  | .hbm, ⟨63, _⟩ => ⟨S16x64, .f32⟩
  | .hbm, ⟨64, _⟩ => ⟨S16x64, .f32⟩
  | .hbm, ⟨65, _⟩ => ⟨S4096x16x64, .f32⟩
  | .local _ .vmem, ⟨0, _⟩ => ⟨S12800x5, .i32⟩
  | .local _ .vmem, ⟨1, _⟩ => ⟨S12800x5, .i32⟩
  | .local _ .vmem, ⟨2, _⟩ => ⟨S15x66, .bf16⟩
  | .local _ .vmem, ⟨3, _⟩ => ⟨S48x200, .f32⟩
  | .local _ .vmem, ⟨4, _⟩ => ⟨S16x64, .f32⟩
  | .local _ .vmem, ⟨5, _⟩ => ⟨S64x16x64, .f32⟩
  | .local _ .vmem, ⟨6, _⟩ => ⟨S64x16x64, .f32⟩
  | _, _ => ⟨S4096x200x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12800x5 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x66 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x200x5 : Shape := ⟨3, ![4096, 200, 5]⟩
abbrev S16x200x3 : Shape := ⟨3, ![16, 200, 3]⟩
abbrev S16 : Shape := ⟨1, ![16]⟩
abbrev S4x64 : Shape := ⟨2, ![4, 64]⟩
abbrev S24x64 : Shape := ⟨2, ![24, 64]⟩
abbrev S7x64 : Shape := ⟨2, ![7, 64]⟩
abbrev S32x64 : Shape := ⟨2, ![32, 64]⟩
abbrev S13x64 : Shape := ⟨2, ![13, 64]⟩
abbrev S4096x200x1 : Shape := ⟨3, ![4096, 200, 1]⟩
abbrev S4096x200 : Shape := ⟨2, ![4096, 200]⟩
abbrev S_ : Shape := ⟨0, ![]⟩
abbrev S1 : Shape := ⟨1, ![1]⟩
abbrev S1x1x1 : Shape := ⟨3, ![1, 1, 1]⟩
abbrev S4096x200x64 : Shape := ⟨3, ![4096, 200, 64]⟩
abbrev S4096x200x66 : Shape := ⟨3, ![4096, 200, 66]⟩
abbrev S16x200x1 : Shape := ⟨3, ![16, 200, 1]⟩
abbrev S16x200 : Shape := ⟨2, ![16, 200]⟩
abbrev S4096x64x16 : Shape := ⟨3, ![4096, 64, 16]⟩
abbrev S4096x16x64 : Shape := ⟨3, ![4096, 16, 64]⟩
abbrev S1x16x1 : Shape := ⟨3, ![1, 16, 1]⟩

abbrev nBuf : Space → Nat
  | .hbm => 160
  | .vmem => 0
  | .smem => 0
  | _ => 0

abbrev hbmTy0_0 (i : Nat) : BufTy := match i % 128 with
  | 0 => ⟨S4096x200x5, .i32⟩
  | 1 => ⟨S16x200x3, .f32⟩
  | 2 => ⟨S16, .f32⟩
  | 3 => ⟨S4x64, .f32⟩
  | 4 => ⟨S24x64, .f32⟩
  | 5 => ⟨S7x64, .f32⟩
  | 6 => ⟨S32x64, .f32⟩
  | 7 => ⟨S13x64, .f32⟩
  | 8 => ⟨S4096x200x1, .i32⟩
  | 9 => ⟨S4096x200, .i32⟩
  | 10 => ⟨S_, .i32⟩
  | 11 => ⟨S4096x200, .i32⟩
  | 12 => ⟨S4096x200, .i1⟩
  | 13 => ⟨S_, .i32⟩
  | 14 => ⟨S4096x200, .i32⟩
  | 15 => ⟨S4096x200, .i32⟩
  | 16 => ⟨S4096x200, .i32⟩
  | 17 => ⟨S4096x200x1, .i32⟩
  | 18 => ⟨S1, .i32⟩
  | 19 => ⟨S_, .i32⟩
  | 20 => ⟨S4096x200x1, .i32⟩
  | 21 => ⟨S4096x200x1, .i1⟩
  | 22 => ⟨S1x1x1, .i32⟩
  | 23 => ⟨S4096x200x1, .i32⟩
  | 24 => ⟨S4096x200x1, .i1⟩
  | 25 => ⟨S4096x200x1, .i1⟩
  | 26 => ⟨S_, .i1⟩
  | 27 => ⟨S4096x200, .i1⟩
  | 28 => ⟨S4096x200x64, .f32⟩
  | 29 => ⟨S4096x200x64, .i1⟩
  | 30 => ⟨S_, .f32⟩
  | 31 => ⟨S4096x200x64, .f32⟩
  | 32 => ⟨S4096x200x64, .f32⟩
  | 33 => ⟨S4096x200x1, .i32⟩
  | 34 => ⟨S4096x200, .i32⟩
  | 35 => ⟨S_, .i32⟩
  | 36 => ⟨S4096x200, .i32⟩
  | 37 => ⟨S4096x200, .i1⟩
  | 38 => ⟨S_, .i32⟩
  | 39 => ⟨S4096x200, .i32⟩
  | 40 => ⟨S4096x200, .i32⟩
  | 41 => ⟨S4096x200, .i32⟩
  | 42 => ⟨S4096x200x1, .i32⟩
  | 43 => ⟨S1, .i32⟩
  | 44 => ⟨S_, .i32⟩
  | 45 => ⟨S4096x200x1, .i32⟩
  | 46 => ⟨S4096x200x1, .i1⟩
  | 47 => ⟨S1x1x1, .i32⟩
  | 48 => ⟨S4096x200x1, .i32⟩
  | 49 => ⟨S4096x200x1, .i1⟩
  | 50 => ⟨S4096x200x1, .i1⟩
  | 51 => ⟨S_, .i1⟩
  | 52 => ⟨S4096x200, .i1⟩
  | 53 => ⟨S4096x200x64, .f32⟩
  | 54 => ⟨S4096x200x64, .i1⟩
  | 55 => ⟨S_, .f32⟩
  | 56 => ⟨S4096x200x64, .f32⟩
  | 57 => ⟨S4096x200x64, .f32⟩
  | 58 => ⟨S4096x200x1, .i32⟩
  | 59 => ⟨S4096x200, .i32⟩
  | 60 => ⟨S_, .i32⟩
  | 61 => ⟨S4096x200, .i32⟩
  | 62 => ⟨S4096x200, .i1⟩
  | 63 => ⟨S_, .i32⟩
  | 64 => ⟨S4096x200, .i32⟩
  | 65 => ⟨S4096x200, .i32⟩
  | 66 => ⟨S4096x200, .i32⟩
  | 67 => ⟨S4096x200x1, .i32⟩
  | 68 => ⟨S1, .i32⟩
  | 69 => ⟨S_, .i32⟩
  | 70 => ⟨S4096x200x1, .i32⟩
  | 71 => ⟨S4096x200x1, .i1⟩
  | 72 => ⟨S1x1x1, .i32⟩
  | 73 => ⟨S4096x200x1, .i32⟩
  | 74 => ⟨S4096x200x1, .i1⟩
  | 75 => ⟨S4096x200x1, .i1⟩
  | 76 => ⟨S_, .i1⟩
  | 77 => ⟨S4096x200, .i1⟩
  | 78 => ⟨S4096x200x64, .f32⟩
  | 79 => ⟨S4096x200x64, .i1⟩
  | 80 => ⟨S_, .f32⟩
  | 81 => ⟨S4096x200x64, .f32⟩
  | 82 => ⟨S4096x200x64, .f32⟩
  | 83 => ⟨S4096x200x1, .i32⟩
  | 84 => ⟨S4096x200, .i32⟩
  | 85 => ⟨S_, .i32⟩
  | 86 => ⟨S4096x200, .i32⟩
  | 87 => ⟨S4096x200, .i1⟩
  | 88 => ⟨S_, .i32⟩
  | 89 => ⟨S4096x200, .i32⟩
  | 90 => ⟨S4096x200, .i32⟩
  | 91 => ⟨S4096x200, .i32⟩
  | 92 => ⟨S4096x200x1, .i32⟩
  | 93 => ⟨S1, .i32⟩
  | 94 => ⟨S_, .i32⟩
  | 95 => ⟨S4096x200x1, .i32⟩
  | 96 => ⟨S4096x200x1, .i1⟩
  | 97 => ⟨S1x1x1, .i32⟩
  | 98 => ⟨S4096x200x1, .i32⟩
  | 99 => ⟨S4096x200x1, .i1⟩
  | 100 => ⟨S4096x200x1, .i1⟩
  | 101 => ⟨S_, .i1⟩
  | 102 => ⟨S4096x200, .i1⟩
  | 103 => ⟨S4096x200x64, .f32⟩
  | 104 => ⟨S4096x200x64, .i1⟩
  | 105 => ⟨S_, .f32⟩
  | 106 => ⟨S4096x200x64, .f32⟩
  | 107 => ⟨S4096x200x64, .f32⟩
  | 108 => ⟨S4096x200x1, .i32⟩
  | 109 => ⟨S4096x200, .i32⟩
  | 110 => ⟨S_, .i32⟩
  | 111 => ⟨S4096x200, .i32⟩
  | 112 => ⟨S4096x200, .i1⟩
  | 113 => ⟨S_, .i32⟩
  | 114 => ⟨S4096x200, .i32⟩
  | 115 => ⟨S4096x200, .i32⟩
  | 116 => ⟨S4096x200, .i32⟩
  | 117 => ⟨S4096x200x1, .i32⟩
  | 118 => ⟨S1, .i32⟩
  | 119 => ⟨S_, .i32⟩
  | 120 => ⟨S4096x200x1, .i32⟩
  | 121 => ⟨S4096x200x1, .i1⟩
  | 122 => ⟨S1x1x1, .i32⟩
  | 123 => ⟨S4096x200x1, .i32⟩
  | 124 => ⟨S4096x200x1, .i1⟩
  | 125 => ⟨S4096x200x1, .i1⟩
  | 126 => ⟨S_, .i1⟩
  | 127 => ⟨S4096x200, .i1⟩
  | _ => ⟨S4096x200x5, .i32⟩

abbrev hbmTy0_1 (i : Nat) : BufTy := match i % 128 with
  | 0 => ⟨S4096x200x64, .f32⟩
  | 1 => ⟨S4096x200x64, .i1⟩
  | 2 => ⟨S_, .f32⟩
  | 3 => ⟨S4096x200x64, .f32⟩
  | 4 => ⟨S4096x200x64, .f32⟩
  | 5 => ⟨S4096x200x64, .f32⟩
  | 6 => ⟨S4096x200x64, .f32⟩
  | 7 => ⟨S4096x200x64, .f32⟩
  | 8 => ⟨S4096x200x64, .f32⟩
  | 9 => ⟨S4096x200x1, .f32⟩
  | 10 => ⟨S4096x200x1, .f32⟩
  | 11 => ⟨S4096x200x66, .f32⟩
  | 12 => ⟨S16x200x1, .f32⟩
  | 13 => ⟨S16x200, .f32⟩
  | 14 => ⟨S4096x200x64, .f32⟩
  | 15 => ⟨S4096x64x16, .f32⟩
  | 16 => ⟨S4096x16x64, .f32⟩
  | 17 => ⟨S16x200x1, .f32⟩
  | 18 => ⟨S16x200, .f32⟩
  | 19 => ⟨S4096x200x64, .f32⟩
  | 20 => ⟨S4096x64x16, .f32⟩
  | 21 => ⟨S4096x16x64, .f32⟩
  | 22 => ⟨S4096x16x64, .f32⟩
  | 23 => ⟨S16x200x1, .f32⟩
  | 24 => ⟨S16x200, .f32⟩
  | 25 => ⟨S4096x200x64, .f32⟩
  | 26 => ⟨S4096x64x16, .f32⟩
  | 27 => ⟨S4096x16x64, .f32⟩
  | 28 => ⟨S4096x16x64, .f32⟩
  | 29 => ⟨S1x16x1, .f32⟩
  | 30 => ⟨S4096x16x64, .f32⟩
  | 31 => ⟨S4096x16x64, .f32⟩
  | _ => ⟨S4096x200x5, .i32⟩

abbrev hbmTy (i : Nat) : BufTy := match i / 128 with
  | 0 => hbmTy0_0 i
  | 1 => hbmTy0_1 i
  | _ => ⟨S4096x200x5, .i32⟩

abbrev bufTy : (tb : Table) → Fin (tcTables nBuf tb) → BufTy
  | .hbm, ⟨i, _⟩ => hbmTy i
  | _, _ => ⟨S4096x200x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_call4_cst : Ref sig .tc := ⟨.hbm, 130, rfl⟩
abbrev main_call4_v15 : Ref sig .tc := ⟨.hbm, 131, rfl⟩
abbrev main_v14 : Ref sig .tc := ⟨.hbm, 132, rfl⟩
abbrev main_v15 : Ref sig .tc := ⟨.hbm, 133, rfl⟩
abbrev main_v16 : Ref sig .tc := ⟨.hbm, 134, rfl⟩
abbrev main_v17 : Ref sig .tc := ⟨.hbm, 135, rfl⟩
abbrev main_v18 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩
abbrev main_v22 : Ref sig .tc := ⟨.hbm, 140, rfl⟩
abbrev main_v23 : Ref sig .tc := ⟨.hbm, 141, rfl⟩
abbrev main_v24 : Ref sig .tc := ⟨.hbm, 142, rfl⟩
abbrev main_v25 : Ref sig .tc := ⟨.hbm, 143, rfl⟩
abbrev main_v26 : Ref sig .tc := ⟨.hbm, 144, rfl⟩
abbrev main_v27 : Ref sig .tc := ⟨.hbm, 145, rfl⟩
abbrev main_v28 : Ref sig .tc := ⟨.hbm, 146, rfl⟩
abbrev main_v29 : Ref sig .tc := ⟨.hbm, 147, rfl⟩
abbrev main_v30 : Ref sig .tc := ⟨.hbm, 148, rfl⟩
abbrev main_v31 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_v35 : Ref sig .tc := ⟨.hbm, 153, rfl⟩
abbrev main_v36 : Ref sig .tc := ⟨.hbm, 154, rfl⟩
abbrev main_v37 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩

abbrev nD : Nat := 1
abbrev τ : Topo := Topo.v7x

variable {F : FTy → Type} [FloatOps F]
-- ==== Proof.Range.lean ====
/- What the precondition says: every word is one of 0, 1, 2, 3 and every weight is a finite number. -/
module

public import proofs.«01_k».proof.Defs
public import Idealize.ShloMosaic.Lib.Pipeline.ValueKit
public import Idealize.ShloMosaic.Lib.Pointwise
public import Idealize.ShloMosaic.Lib.Tactic.WordOmega

@[expose] public section

noncomputable section

namespace Cert.Range

open Cert.Pre_in_range Idealize.ShloMosaic

variable [Cert.Pre_in_range.Facts]

/-- A word that passes the precondition's test is one of the four. -/
theorem word_range (w : BitVec 32) (h : IntOp.andi (IntOp.cmpi .sge w 0#32) (IntOp.cmpi .slt w 4#32) = 1#1) :
    ∃ v : Fin 4, w = BitVec.ofNat 32 v := by
  have hlt : w.toNat < 4 := by word_omega
  exact ⟨⟨w.toNat, hlt⟩, BitVec.eq_of_toNat_eq (by simp)⟩

/-- Every word is one of the four. -/
theorem words (x : IVec S4096x200x5 32) (w : FVec Ideal S16x200x3 .f32) (b : FVec Ideal S16 .f32)
    (h : (fn (F := Ideal) x w b).1 = fun _ => 1#1) (n : Fin 4096) (l : Fin 200) (j : Fin 5) :
    ∃ v : Fin 4, x (ix3 n l j) = BitVec.ofNat 32 v := by
  refine word_range _ ?_
  rw [← congrFun h (ix3 n l j)]
  unfold fn
  pointwise

/-- Every weight is a finite number. -/
theorem weights (x : IVec S4096x200x5 32) (w : FVec Ideal S16x200x3 .f32) (b : FVec Ideal S16 .f32)
    (h : (fn (F := Ideal) x w b).2 = fun _ => 1#1) (f : Fin 16) (l : Fin 200) (k : Fin 3) :
    ∃ r : ℝ, (w (ix3 f l k) : EReal) = (r : EReal) := by
  have htop : Ideal.ofBits .f32 2139095040#32 = ⊤ := by
    simp [Ideal.ofBits, Ideal.ieee]
  have h1 : BitVec.ofBool (decide (max (w (ix3 f l k) : EReal) (-(w (ix3 f l k) : EReal)) < Ideal.ofBits .f32 2139095040#32)) = 1#1 := by
    rw [← congrFun h (ix3 f l k)]
    unfold fn
    pointwise
    rfl
  rw [htop] at h1
  generalize (w (ix3 f l k) : EReal) = a at h1 ⊢
  induction a using EReal.rec with
  | bot => simp at h1
  | coe r => exact ⟨r, rfl⟩
  | top => simp at h1

end Cert.Range

end
-- ==== Proof.Block.lean ====
/- What the kernel leaves in one output block, as a function of the blocks that it reads. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Idealize.ShloMosaic

/-- The output block at batch `b`, filter `f`, column `d`: three products of a third of the stacked weights with the
    batch's 200 rows of `sp`, each shifted by one column from the one before, and the bias. -/
def outAt (sp : FVec Ideal S12800x66 .f32) (w : FVec Ideal S48x200 .f32) (bias : FVec Ideal S16x64 .f32)
    (b : Fin 64) (f : Fin 16) (d : Fin 64) : EReal :=
  (∑ l : Fin 200, w (ix2 ⟨f, by omega⟩ l) * sp (ix2 ⟨200 * b + l, by omega⟩ ⟨d, by omega⟩))
    + (∑ l : Fin 200, w (ix2 ⟨16 + f, by omega⟩ l) * sp (ix2 ⟨200 * b + l, by omega⟩ ⟨1 + d, by omega⟩))
    + (∑ l : Fin 200, w (ix2 ⟨32 + f, by omega⟩ l) * sp (ix2 ⟨200 * b + l, by omega⟩ ⟨2 + d, by omega⟩))
    + bias (ix2 f d)

/-- What the body stores for the batch whose rows of `sp` start at row `o`. -/
def batchPay (o : ℕ) (h : S12800x66.Slices ![o, 0] S200x66) (sp : FVec Ideal S12800x66 .f32) (w : FVec Ideal S48x200 .f32)
    (bias : FVec Ideal S16x64 .f32) : FVec Ideal S1x16x64 .f32 :=
  let r : FVec Ideal S48x66 .f32 := matmul dot_S48x200_S200x66_S48x66_1_0_0_1_n_n none w
    (extractStridedSlice S200x66 ![o, 0] sp h) (constant S48x66 .f32 0x00000000#32)
  shapeCast S1x16x64 (addf (addf (addf (extractStridedSlice S16x64 ![0, 0] r slices_S48x66_o0_0_S16x64)
      (extractStridedSlice S16x64 ![16, 1] r slices_S48x66_o16_1_S16x64))
      (extractStridedSlice S16x64 ![32, 2] r slices_S48x66_o32_2_S16x64)) bias) shapeCasts_S16x64_S1x16x64

/-- The stored value of batch `b` read at a filter and a column. -/
theorem batchPay_apply (b : Fin 64) (o : ℕ) (ho : o = 200 * b) (h : S12800x66.Slices ![o, 0] S200x66)
    (sp : FVec Ideal S12800x66 .f32) (w : FVec Ideal S48x200 .f32) (bias : FVec Ideal S16x64 .f32)
    (f : Fin 16) (d : Fin 64) (z : Fin 1) :
    batchPay o h sp w bias (ix3 z f d) = outAt sp w bias b f d := by
  subst ho
  unfold batchPay outAt
  pointwise

/-- A stored piece's value, whatever batch it is for: the batch is read off the row at which its slice of `sp` starts. -/
theorem piece (o : ℕ) (h : S12800x66.Slices ![o, 0] S200x66) (x0 : Vec Ideal S12800x5 .i32) (x1 : Vec Ideal S15x66 .bf16)
    (x2 : Vec Ideal S48x200 .f32) (x3 : Vec Ideal S16x64 .f32) (y : S64x16x64.Idx) (x : S1x16x64.Idx)
    (h0 : o = 200 * (y 0 : ℕ)) (h1 : (y 1 : ℕ) = x 1) (h2 : (y 2 : ℕ) = x 2) :
    batchPay o h (k0_pay89 x0 x1 x2 x3) (k0_pay90 x0 x1 x2 x3) (k0_pay91 x0 x1 x2 x3) x
      = outAt (k0_pay4 x0 x1) x2 x3 (y 0) (y 1) (y 2) := by
  have e1 : y 1 = x 1 := Fin.ext h1
  have e2 : y 2 = x 2 := Fin.ext h2
  have p0 : k0_pay89 x0 x1 x2 x3 = k0_pay4 x0 x1 := by
    unfold k0_pay89
    rw [View.ld_unit_lit (h := by decide), View.ld_unit_lit (h := by decide)]
  have p1 : k0_pay90 x0 x1 x2 x3 = x2 := by
    funext j; idx_vars j; unfold k0_pay90 k0_pay5; pointwise
  have p2 : k0_pay91 x0 x1 x2 x3 = x3 := by
    funext j; idx_vars j; unfold k0_pay91 k0_pay6; pointwise
  rw [p0, p1, p2, e1, e2, eq_ix3 x]
  exact batchPay_apply (y 0) o h0 h _ _ _ (x 1) (x 2) (x 0)

set_option maxHeartbeats 4000000 in
/-- The output block after the body, read at a batch, a filter and a column. -/
theorem out_apply (x0 : Vec Ideal S12800x5 .i32) (x1 : Vec Ideal S15x66 .bf16)
    (x2 : Vec Ideal S48x200 .f32) (x3 : Vec Ideal S16x64 .f32) (y : S64x16x64.Idx) :
    out0_4 x0 x1 x2 x3 y = outAt (k0_pay4 x0 x1) x2 x3 (y 0) (y 1) (y 2) := by
  canon_tiles x h
  all_goals (refine piece _ ?_ x0 x1 x2 x3 y x ?_ h1 h2 <;> first | omega | decide)

end Cert.KernelIdeal.Block

end
-- ==== Proof.Tables.lean ====
/- The constant tables of the two programs: the kernel's padded table of positions, the reference's five tables, and the
   kernel's table of coefficients. -/
module

public import proofs.«01_k».proof.KernelIdeal
public import proofs.«01_k».proof.ReferenceIdeal
public import Idealize.ShloMosaic.Lib.Pointwise

@[expose] public section

set_option maxRecDepth 16384

noncomputable section

namespace Cert.Tables

open Idealize.ShloMosaic

/-- The word of the kernel's padded table at position `v` and padded column `c`. -/
abbrev word (v : Fin 4) (c : Fin 66) : BitVec 32 := Cert.KernelIdeal.lit0 ⟨66 * v + c, by omega⟩

/-- A word whose exponent field is not all ones denotes a real number. -/
theorem ofBits_real (b : BitVec 32) (h : (b.extractLsb' 23 8).toNat ≠ 255) : ∃ r : ℝ, Ideal.ofBits .f32 b = (r : EReal) := by
  have h' : ¬ (b.extractLsb' 23 8).toNat = 2 ^ 8 - 1 := h
  unfold Ideal.ofBits Ideal.ieee
  dsimp only
  rw [if_neg h']
  split
  · exact ⟨_, rfl⟩
  · exact ⟨_, rfl⟩

theorem word_exponent : ∀ v : Fin 4, ∀ c : Fin 66, ((word v c).extractLsb' 23 8).toNat ≠ 255 := by decide +kernel

/-- The kernel's padded table as real numbers. -/
def tab (v : Fin 4) (c : Fin 66) : ℝ := (ofBits_real (word v c) (word_exponent v c)).choose

theorem tab_eq (v : Fin 4) (c : Fin 66) : Ideal.ofBits .f32 (word v c) = (tab v c : EReal) :=
  (ofBits_real (word v c) (word_exponent v c)).choose_spec

/-- The padding: column 0 repeats the last of the 64 columns, column 65 the first. -/
theorem word_left : ∀ v : Fin 4, word v 0 = word v 64 := by decide +kernel
theorem word_right : ∀ v : Fin 4, word v 65 = word v 1 := by decide +kernel

/-- The first four rows of each of the reference's tables are the kernel's table. -/
theorem ref0 : ∀ v : Fin 4, ∀ d : Fin 64, Cert.ReferenceIdeal.lit0 ⟨64 * v + d, by omega⟩ = word v ⟨d + 1, by omega⟩ := by decide +kernel
theorem ref1 : ∀ v : Fin 4, ∀ d : Fin 64, Cert.ReferenceIdeal.lit1 ⟨64 * v + d, by omega⟩ = word v ⟨d + 1, by omega⟩ := by decide +kernel
theorem ref2 : ∀ v : Fin 4, ∀ d : Fin 64, Cert.ReferenceIdeal.lit2 ⟨64 * v + d, by omega⟩ = word v ⟨d + 1, by omega⟩ := by decide +kernel
theorem ref3 : ∀ v : Fin 4, ∀ d : Fin 64, Cert.ReferenceIdeal.lit3 ⟨64 * v + d, by omega⟩ = word v ⟨d + 1, by omega⟩ := by decide +kernel
theorem ref4 : ∀ v : Fin 4, ∀ d : Fin 64, Cert.ReferenceIdeal.lit4 ⟨64 * v + d, by omega⟩ = word v ⟨d + 1, by omega⟩ := by decide +kernel

/-- Twelve times the inverse of the matrix of the four monomials at the four positions. -/
def inv12 : Fin 4 → Fin 4 → ℝ := ![![3, 3, 3, 3], ![-2, -6, 6, 2], ![3, -3, -3, 3], ![-2, 6, -6, 2]]

/-- The kernel's table of coefficients holds that matrix. -/
theorem inv12_eq (q x : Fin 4) : Ideal.ofBits .f32 (Cert.KernelIdeal.lit1 ⟨4 * q + x, by omega⟩) = (inv12 q x : EReal) := by
  fin_cases q <;> fin_cases x <;> (simp [Cert.KernelIdeal.lit1, inv12, Ideal.ofBits, Ideal.ieee, -EReal.coe_mul]; try norm_num)

end Cert.Tables

end
-- ==== Proof.Host.lean ====
/- What the kernel's host operations leave in the arrays that the launch reads. -/
module

public import proofs.«01_k».proof.Proof.Gen.KernelIdeal.Value
public import proofs.«01_k».proof.Proof.Tables
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.KernelIdeal.HostValue

open Cert.KernelIdeal Cert.KernelIdeal.Gen Cert.Tables Idealize.ShloMosaic Idealize.ShloMosaic.TcCoe

/-- The coefficient of monomial `q` in padded column `c`. -/
def coef (q : Fin 4) (c : Fin 66) : ℝ := (∑ x : Fin 4, inv12 q x * tab x c) / 12

/-- The padded table's word, by its row and column. -/
theorem lit0_rowMajor (x : Fin 4) (c : Fin 66) : lit0 (S4x66.rowMajor (ix2 x c)) = word x c := by
  refine congrArg lit0 (Fin.ext ?_)
  refine (rowMajor_val2 (d := S4x66.size) (ix2 x c) 66 rfl).trans ?_
  show (x : ℕ) * 66 + (c : ℕ) = 66 * (x : ℕ) + c
  omega

/-- The inverse matrix's word, by its row and column. -/
theorem lit1_rowMajor (q x : Fin 4) : lit1 (S4x4.rowMajor (ix2 q x)) = lit1 ⟨4 * q + x, by omega⟩ := by
  refine congrArg lit1 (Fin.ext ?_)
  refine (rowMajor_val2 (d := S4x4.size) (ix2 q x) 4 rfl).trans ?_
  show (q : ℕ) * 4 + (x : ℕ) = 4 * (q : ℕ) + x
  omega

/-- What the host's quotient of sums is, as a real number. -/
theorem coef_eq (q : Fin 4) (c : Fin 66) :
    Ideal.div (∑ x : Fin 4, Ideal.ofBits .f32 (lit1 (S4x4.rowMajor (ix2 q x))) * Ideal.ofBits .f32 (lit0 (S4x66.rowMajor (ix2 x c))))
      (Ideal.ofBits .f32 1094713344#32) = (coef q c : EReal) := by
  have h12 : Ideal.ofBits .f32 1094713344#32 = ((12 : ℝ) : EReal) := by
    simp [Ideal.ofBits, Ideal.ieee, -EReal.coe_mul]; norm_num
  have hs : (∑ x : Fin 4, Ideal.ofBits .f32 (lit1 (S4x4.rowMajor (ix2 q x))) * Ideal.ofBits .f32 (lit0 (S4x66.rowMajor (ix2 x c))))
      = ((∑ x : Fin 4, inv12 q x * tab x c : ℝ) : EReal) := by
    simp only [lit0_rowMajor, lit1_rowMajor, inv12_eq, tab_eq, Fin.sum_univ_four, EReal.coe_add, EReal.coe_mul]
  rw [hs, h12, Ideal.div_coe (by norm_num : (12:ℝ) ≠ 0), ← EReal.coe_mul, coef, mul_one_div]

variable (m : (ℓ : Loc nD τ sig) → Buf (Elt Ideal) ℓ)

/-- The categorical words. -/
abbrev argX (c : Dev nD) : IVec S4096x200x5 32 := m (c, Proc.tc.devRef main_arg0)

/-- The convolution's weights. -/
abbrev argW (c : Dev nD) : FVec Ideal S16x200x3 .f32 := m (c, Proc.tc.devRef main_arg1)

/-- The convolution's bias. -/
abbrev argB (c : Dev nD) : FVec Ideal S16 .f32 := m (c, Proc.tc.devRef main_arg2)

/-- The row of coefficients that a row of the stacked array repeats: five rows for each of the three monomials. -/
def monomial (k : Fin 15) : Fin 4 := if (k : ℕ) < 5 then 1 else if (k : ℕ) - 5 < 5 then 2 else 3

/-- The stacked coefficient array at an index. -/
theorem coefficients (c : Dev nD) (k : Fin 15) (d : Fin 66) :
    (V m c main_v24 : Vec Ideal S15x66 .bf16) (ix2 k d) = (coef (monomial k) d : EReal) := by
  unfold V
  after_reads_simp
  simp only [Matrix.cons_val_zero, Matrix.cons_val_one, Matrix.cons_val]
  generalize e14 : StableHlo.upto hostOps0 (fun b => m (c, b)) 27 (Proc.tc.devRef main_v14) = a14
  generalize e18 : StableHlo.upto hostOps0 (fun b => m (c, b)) 27 (Proc.tc.devRef main_v18) = a18
  generalize e22 : StableHlo.upto hostOps0 (fun b => m (c, b)) 27 (Proc.tc.devRef main_v22) = a22
  clean_types
  pointwise
  subst e14 e18 e22
  after_reads_simp
  clean_types
  pointwise
  rw [coef_eq, coef_eq, coef_eq, monomial]
  split_ifs <;> rfl

/-- The words of the input as rows of five. -/
theorem words (c : Dev nD) (k : Fin 819200) (j : Fin 5) :
    (V m c main_v0 : IVec S819200x5 32) (ix2 k j)
      = argX m c (ix3 ⟨k / 200, by omega⟩ ⟨k % 200, by omega⟩ j) := by
  entry_read
  pointwise

/-- The weights stacked by tap. -/
theorem weights (c : Dev nD) (k : Fin 48) (l : Fin 200) :
    (V m c main_v2 : Vec Ideal S48x200 .f32) (ix2 k l)
      = argW m c (ix3 ⟨k % 16, by omega⟩ l ⟨k / 16, by omega⟩) := by
  entry_read
  pointwise

/-- The bias array: the given bias and, for each tap, the sum of the weights times five constant coefficients. -/
theorem bias (c : Dev nD) (f : Fin 16) (d : Fin 64) :
    (V m c main_v54 : Vec Ideal S16x64 .f32) (ix2 f d)
      = argB m c (ix1 f)
        + ((∑ l : Fin 200, (argW m c (ix3 f l 0) : EReal))
              * ((5 * coef 0 ⟨d, by omega⟩ : ℝ) : EReal)
          + (∑ l : Fin 200, (argW m c (ix3 f l 1) : EReal))
              * ((5 * coef 0 ⟨1 + d, by omega⟩ : ℝ) : EReal)
          + (∑ l : Fin 200, (argW m c (ix3 f l 2) : EReal))
              * ((5 * coef 0 ⟨2 + d, by omega⟩ : ℝ) : EReal)) := by
  have h5 : Ideal.ofBits .f32 1084227584#32 = ((5 : ℝ) : EReal) := by
    simp [Ideal.ofBits, Ideal.ieee, -EReal.coe_mul]; norm_num
  entry_read
  pointwise
  rw [coef_eq, coef_eq, coef_eq, h5, ← EReal.coe_mul, ← EReal.coe_mul, ← EReal.coe_mul]

end Cert.KernelIdeal.HostValue

end
-- ==== Proof.Poly.lean ====
/- One entry of the kernel's table sum: the cubic in the word that the coefficients spell takes the table's own entries at the
   four words, so the fifteen products add up to five table entries less five constant coefficients. -/
module

public import proofs.«01_k».proof.Proof.Host

@[expose] public section

set_option maxRecDepth 16384

noncomputable section

namespace Cert.KernelIdeal.Poly

open Cert.KernelIdeal Cert.KernelIdeal.Gen Cert.KernelIdeal.HostValue Cert.Tables Idealize.ShloMosaic

/-- A sum of real numbers, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The word less one and a half. -/
def lin (v : Fin 4) : ℝ := (v : ℕ) - 3 / 2

/-- The centred square. -/
def quad (v : Fin 4) : ℝ := lin v * lin v - 5 / 4

/-- The cubic takes the table's entry at each of the four words. -/
theorem cubic_eq (v : Fin 4) (c : Fin 66) :
    lin v * coef 1 c + quad v * coef 2 c + lin v * quad v * coef 3 c = tab v c - coef 0 c := by
  fin_cases v <;> simp [coef, Fin.sum_univ_four, inv12, lin, quad] <;> ring

/-- The sum over the fifteen rows, in three groups of five. -/
theorem sum_fifteen (g : Fin 15 → ℝ) :
    ∑ k : Fin 15, g k = ∑ j : Fin 5, (g ⟨j, by omega⟩ + g ⟨5 + j, by omega⟩ + g ⟨10 + j, by omega⟩) := by
  simp only [Fin.sum_univ_succ, Fin.sum_univ_zero]
  simp [Fin.succ]
  ring

/-- One entry of the table sum. -/
def row (v : Fin 5 → Fin 4) (c : Fin 66) : ℝ := (∑ j : Fin 5, tab (v j) c) - 5 * coef 0 c

/-- The factor in the `k`-th of the fifteen products. -/
def feature (v : Fin 5 → Fin 4) (k : Fin 15) : ℝ :=
  if h : (k : ℕ) < 5 then lin (v ⟨k, h⟩)
  else if h : (k : ℕ) - 5 < 5 then quad (v ⟨k - 5, h⟩) else lin (v ⟨k - 5 - 5, by omega⟩) * quad (v ⟨k - 5 - 5, by omega⟩)

/-- The fifteen products add up to five table entries less five constant coefficients. -/
theorem sum_feature (v : Fin 5 → Fin 4) (c : Fin 66) : ∑ k : Fin 15, feature v k * coef (monomial k) c = row v c := by
  have h : ∀ j : Fin 5, feature v ⟨j, by omega⟩ * coef (monomial ⟨j, by omega⟩) c
      + feature v ⟨5 + j, by omega⟩ * coef (monomial ⟨5 + j, by omega⟩) c
      + feature v ⟨10 + j, by omega⟩ * coef (monomial ⟨10 + j, by omega⟩) c = tab (v j) c - coef 0 c := by
    intro j
    rw [← cubic_eq]
    fin_cases j <;> rfl
  rw [sum_fifteen, Finset.sum_congr rfl fun j _ => h j, row, Finset.sum_sub_distrib, Finset.sum_const]
  simp

/-- A word of the range as a real number. -/
theorem sitofp_word (v : Fin 4) : (FloatOps.sitofp .bf16 (BitVec.ofNat 32 v) : Ideal .bf16) = (((v : ℕ) : ℝ) : EReal) := by
  show (((BitVec.ofNat 32 (v : ℕ)).toInt : ℝ) : EReal) = _
  rw [(by decide : ∀ u : Fin 4, (BitVec.ofNat 32 (u : ℕ)).toInt = ((u : ℕ) : ℤ)) v, Int.cast_natCast]

/-- The body's table sum at a row and a column. -/
theorem sum_apply (x : IVec S12800x5 32) (a : FVec Ideal S15x66 .bf16) (r : Fin 12800) (c : Fin 66) (v : Fin 5 → Fin 4)
    (hx : ∀ j, x (ix2 r j) = BitVec.ofNat 32 (v j))
    (ha : ∀ k d, a (ix2 k d) = (coef (monomial k) d : EReal)) :
    (k0_pay4 x a : FVec Ideal S12800x66 .f32) (ix2 r c) = (row v c : EReal) := by
  have e1 : Ideal.ofBits .bf16 16320#16 = ((3 / 2 : ℝ) : EReal) := by
    simp [Ideal.ofBits, Ideal.ieee, -EReal.coe_mul]; norm_num
  have e2 : Ideal.ofBits .bf16 16288#16 = ((5 / 4 : ℝ) : EReal) := by
    simp [Ideal.ofBits, Ideal.ieee, -EReal.coe_mul]; norm_num
  unfold k0_pay4
  pointwise
  rw [← sum_feature]
  rw [coe_sum]
  refine Finset.sum_congr rfl fun k _ => ?_
  simp only [hx, ha, sitofp_word, e1, e2, ← EReal.coe_sub, ← EReal.coe_mul, feature]
  split_ifs <;> rfl

end Cert.KernelIdeal.Poly

end
-- ==== Proof.Array.lean ====
/- What the kernel's result array holds after the run, at a batch, a filter and a column. -/
module

public import proofs.«01_k».proof.Proof.Block
public import proofs.«01_k».proof.Proof.Poly

@[expose] public section

set_option maxRecDepth 16384

noncomputable section

namespace Cert.KernelIdeal.Array

open Cert.KernelIdeal Cert.KernelIdeal.Gen Cert.KernelIdeal.HostValue Cert.KernelIdeal.Poly Cert.Tables Idealize.ShloMosaic
open Idealize.ShloMosaic.TcCoe

/-- A grid point reads its own 12800 rows of words. -/
theorem index0 : ∀ t : Fin cfg0.N, win0_0.index t = ![(t : ℕ), 0] := (by decide +kernel : ∀ t : Fin grid0.N, _)
/-- Every grid point reads the whole coefficient array. -/
theorem index1 : ∀ t : Fin cfg0.N, win0_1.index t = ![0, 0] := (by decide +kernel : ∀ t : Fin grid0.N, _)
/-- Every grid point reads the whole stacked weights. -/
theorem index2 : ∀ t : Fin cfg0.N, win0_2.index t = ![0, 0] := (by decide +kernel : ∀ t : Fin grid0.N, _)
/-- Every grid point reads the whole bias. -/
theorem index3 : ∀ t : Fin cfg0.N, win0_3.index t = ![0, 0] := (by decide +kernel : ∀ t : Fin grid0.N, _)
/-- A grid point writes its own 64 batches. -/
theorem index4 : ∀ t : Fin cfg0.N, win0_4.index t = ![(t : ℕ), 0, 0] := (by decide +kernel : ∀ t : Fin grid0.N, _)

variable (m : (ℓ : Loc nD τ sig) → Buf (Elt Ideal) ℓ)

/-- The constant part that the host adds to the bias. -/
def shift (w : FVec Ideal S16x200x3 .f32) (f : Fin 16) (d : Fin 64) : EReal :=
  (∑ l : Fin 200, (w (ix3 f l 0) : EReal)) * ((5 * coef 0 ⟨d, by omega⟩ : ℝ) : EReal)
    + (∑ l : Fin 200, (w (ix3 f l 1) : EReal)) * ((5 * coef 0 ⟨1 + d, by omega⟩ : ℝ) : EReal)
    + (∑ l : Fin 200, (w (ix3 f l 2) : EReal)) * ((5 * coef 0 ⟨2 + d, by omega⟩ : ℝ) : EReal)

/-- The result at a batch, a filter and a column, as a function of the words, the weights and the bias. -/
def outE (v : Fin 4096 → Fin 200 → Fin 5 → Fin 4) (w : FVec Ideal S16x200x3 .f32) (b : FVec Ideal S16 .f32)
    (n : Fin 4096) (f : Fin 16) (d : Fin 64) : EReal :=
  (∑ l : Fin 200, (w (ix3 f l 0) : EReal) * (row (v n l) ⟨d, by omega⟩ : EReal))
    + (∑ l : Fin 200, (w (ix3 f l 1) : EReal) * (row (v n l) ⟨1 + d, by omega⟩ : EReal))
    + (∑ l : Fin 200, (w (ix3 f l 2) : EReal) * (row (v n l) ⟨2 + d, by omega⟩ : EReal))
    + ((b (ix1 f) : EReal) + shift w f d)

variable (v : Fin 4096 → Fin 200 → Fin 5 → Fin 4)

/-- A row of the table sum that a grid point forms. -/
theorem block_row (c : Dev nD) (hv : ∀ n l j, argX m c (ix3 n l j) = BitVec.ofNat 32 (v n l j))
    (t : Fin cfg0.N) (n : Fin 4096) (b : Fin 64) (hn : (n : ℕ) = 64 * t + b) (l : Fin 200) (r : Fin 12800)
    (hr : (r : ℕ) = 200 * b + l) (d : Fin 66) :
    (k0_pay4 (iblk m c 0 t) (iblk m c 1 t) : FVec Ideal S12800x66 .f32) (ix2 r d) = (row (v n l) d : EReal) := by
  have ht : (t : ℕ) < 64 := t.isLt
  refine sum_apply _ _ _ _ _ (fun j => ?_) fun k d => ?_
  · blk_simp [iblk, index0]
    rw [← hv]
    refine Eq.trans (congrArg _ ?_) ((words m c ⟨12800 * t + (200 * b + l), by omega⟩ j).trans (congrArg _ ?_))
    · blk_ext [index0]
    · congr 1 <;> refine Fin.ext ?_
      · show (12800 * (t : ℕ) + (200 * b + l)) / 200 = n
        omega
      · show (12800 * (t : ℕ) + (200 * b + l)) % 200 = l
        omega
  · rw [← coefficients m c k d]
    blk_simp [iblk, index1]
    refine congrArg _ ?_
    blk_ext [index1]

/-- The stacked weights that a grid point reads: row `16 k + f` is tap `k` of filter `f`. -/
theorem block_weight (c : Dev nD) (t : Fin cfg0.N) (q : Fin 48) (f : Fin 16) (k : Fin 3) (hq : (q : ℕ) = 16 * k + f) (l : Fin 200) :
    (iblk m c 2 t : FVec Ideal S48x200 .f32) (ix2 q l) = argW m c (ix3 f l k) := by
  blk_simp [iblk, index2]
  refine Eq.trans (congrArg _ ?_) ((weights m c q l).trans (congrArg _ ?_))
  · blk_ext [index2]
  · congr 1 <;> refine Fin.ext ?_
    · show (q : ℕ) % 16 = f
      omega
    · show (q : ℕ) / 16 = k
      omega

/-- The bias block that a grid point reads. -/
theorem block_bias (c : Dev nD) (t : Fin cfg0.N) (f : Fin 16) (d : Fin 64) :
    (iblk m c 3 t : FVec Ideal S16x64 .f32) (ix2 f d) = (argB m c (ix1 f) : EReal) + shift (argW m c) f d := by
  refine Eq.trans ?_ (bias m c f d)
  blk_simp [iblk, index3]
  refine congrArg _ ?_
  blk_ext [index3]

/-- The output block of a grid point at a batch, a filter and a column. -/
theorem block_out (c : Dev nD) (hv : ∀ n l j, argX m c (ix3 n l j) = BitVec.ofNat 32 (v n l j))
    (t : Fin cfg0.N) (n : Fin 4096) (b : Fin 64) (hn : (n : ℕ) = 64 * t + b) (f : Fin 16) (d : Fin 64) :
    Block.outAt (k0_pay4 (iblk m c 0 t) (iblk m c 1 t)) (iblk m c 2 t) (iblk m c 3 t) b f d
      = outE v (argW m c) (argB m c) n f d := by
  unfold Block.outAt outE
  rw [block_bias]
  refine congrArg₂ (· + ·) (congrArg₂ (· + ·) (congrArg₂ (· + ·) ?_ ?_) ?_) rfl
  · refine Finset.sum_congr rfl fun l _ => ?_
    rw [block_weight m c t _ f 0 (by simp) l, block_row m v c hv t n b hn l _ rfl]
  · refine Finset.sum_congr rfl fun l _ => ?_
    rw [block_weight m c t _ f 1 (by simp) l, block_row m v c hv t n b hn l _ rfl]
  · refine Finset.sum_congr rfl fun l _ => ?_
    rw [block_weight m c t _ f 2 (by simp) l, block_row m v c hv t n b hn l _ rfl]

/-- The result array after the run. -/
theorem final (c : Dev nD) (hv : ∀ n l j, argX m c (ix3 n l j) = BitVec.ofNat 32 (v n l j)) :
    (dats m 0 c).arrAt 4 cfg0.N = (fun i : S4096x16x64.Idx => outE v (argW m c) (argB m c) (i 0) (i 1) (i 2)) := by
  refine (dats m 0 c).arrAt_eq_of_covers 4 _ (by decide +kernel) fun t hf y => ?_
  blk_simp
  rw [after0_4, Block.out_apply]
  have e1 : (win0_4.blk t).view.emb y 1 = y 1 := Fin.ext (by blk_simp [index4])
  have e2 : (win0_4.blk t).view.emb y 2 = y 2 := Fin.ext (by blk_simp [index4])
  rw [e1, e2]
  refine block_out m v c hv t _ (y 0) ?_ (y 1) (y 2)
  blk_simp [index4]
  omega

end Cert.KernelIdeal.Array

end
-- ==== Proof.Lookup.lean ====
/- A row lookup as the reference writes it: rows of a table of 64 columns gathered at an array of row numbers, with the rows
   whose number is out of range replaced. At a number in range it is that row. -/
module

public import proofs.«01_k».proof.ReferenceIdeal
public import Idealize.ShloMosaic.Lib.Pipeline.ValueKit
public import Idealize.ShloMosaic.Lib.Pointwise

@[expose] public section

noncomputable section

namespace Cert.Lookup

open Idealize.ShloMosaic

/-- The dimension numbers of a lookup of rows of `N × 64` at row numbers `4096 × 200 × 1`. -/
abbrev rowDims (N : ℕ) (wf : GatherDims.WF ⟨2, ![N, 64]⟩ ⟨3, ![4096, 200, 1]⟩ ⟨3, ![4096, 200, 64]⟩ [2] [0] [] [0] [] 2 ![1, 64]) :
    GatherDims ⟨2, ![N, 64]⟩ ⟨3, ![4096, 200, 1]⟩ ⟨3, ![4096, 200, 64]⟩ where
  offsetDims := [2]
  collapsedSliceDims := [0]
  operandBatchingDims := []
  startIndicesBatchingDims := []
  startIndexMap := [0]
  indexVectorDim := 2
  sliceSizes := ![1, 64]
  wf := wf

/-- The lookup's result at an index whose row number is `k`: column `d` of row `k`. -/
theorem gather_row {α : Type} {N : ℕ}
    (wf : GatherDims.WF ⟨2, ![N, 64]⟩ ⟨3, ![4096, 200, 1]⟩ ⟨3, ![4096, 200, 64]⟩ [2] [0] [] [0] [] 2 ![1, 64])
    (x : (⟨2, ![N, 64]⟩ : Shape).Idx → α) (rows : IVec ⟨3, ![4096, 200, 1]⟩ 32) (b : Fin 4096) (l : Fin 200) (d : Fin 64)
    (k : Fin N) (hk : (rows (ix3 b l 0)).toInt = ((k : ℕ) : ℤ)) :
    Host.gather (rowDims N wf) x rows (ix3 b l d) = x (ix2 k d) := by
  have hstart : (rowDims N wf).start (ix3 b l d) rows 0 = k := by
    have hin : (0 : Fin 2) ∈ (rowDims N wf).startIndexMap := by simp
    have hat : (rowDims N wf).siIdx (ix3 b l d) ⟨List.idxOf (0 : Fin 2) (rowDims N wf).startIndexMap,
        List.idxOf_lt_length_iff.2 hin⟩ = ix3 b l 0 := by
      funext a
      fin_cases a <;> rfl
    unfold GatherDims.start
    rw [dif_pos hin, hat, hk, Int.toNat_natCast]
    show min (k : ℕ) (N - 1) = k
    omega
  refine congrArg x (funext fun a => Fin.ext ?_)
  show (rowDims N wf).start (ix3 b l d) rows a + (rowDims N wf).batchCoord (ix3 b l d) a
    + (rowDims N wf).offCoord (ix3 b l d) a = _
  rw [GatherDims.batchCoord_eq_zero _ _ a (by simp), Nat.add_zero]
  fin_cases a
  · refine Eq.trans (congrArg₂ (· + ·) hstart (GatherDims.offCoord_eq_zero _ _ _ fun h => ?_)) (Nat.add_zero _)
    exact ((GatherDims.mem_sKept _ _).1 h).1 (by simp)
  · have hout : (1 : Fin 2) ∉ (rowDims N wf).startIndexMap := by simp
    have hkept : (1 : Fin 2) ∈ (rowDims N wf).sKept := (GatherDims.mem_sKept _ _).2 (by simp)
    have h1 : (rowDims N wf).start (ix3 b l d) rows 1 = 0 := by unfold GatherDims.start; rw [dif_neg hout]
    have h2 : (rowDims N wf).offCoord (ix3 b l d) 1 = d := by unfold GatherDims.offCoord; rw [dif_pos hkept]; rfl
    exact (congrArg₂ (· + ·) h1 h2).trans (Nat.zero_add _)

/-- The range test of a lookup passes at a word of the range. -/
theorem select_row {α : Type} (rows : IVec ⟨3, ![4096, 200, 1]⟩ 32) (b : Fin 4096) (l : Fin 200) (v : Fin 4) (u : BitVec 32)
    (hrow : rows (ix3 b l 0) = BitVec.ofNat 32 v) (hu : IntOp.cmpi .sle (BitVec.ofNat 32 (v : ℕ)) u = 1#1) (p q : α) :
    Scalar.select (Finset.fold IntOp.andi (1#1) (fun x : Fin 1 => IntOp.andi (IntOp.cmpi .sge (rows (ix3 b l x)) 0#32)
      (IntOp.cmpi .sle (rows (ix3 b l x)) u)) Finset.univ) p q = p := by
  have h0 : IntOp.cmpi .sge (BitVec.ofNat 32 (v : ℕ)) 0#32 = 1#1 := by fin_cases v <;> decide
  rw [Finset.univ_unique, Finset.fold_singleton]
  show Scalar.select (IntOp.andi (IntOp.andi (IntOp.cmpi .sge (rows (ix3 b l 0)) 0#32) (IntOp.cmpi .sle (rows (ix3 b l 0)) u)) 1#1) p q = p
  rw [hrow, h0, hu]
  rfl

/-- The wrap of negative row numbers leaves a word of the range as it is. -/
theorem wrap_word (v : Fin 4) (n : BitVec 32) :
    Scalar.select (IntOp.cmpi .slt (BitVec.ofNat 32 (v : ℕ)) 0#32) (IntOp.addi (BitVec.ofNat 32 (v : ℕ)) n) (BitVec.ofNat 32 (v : ℕ))
      = BitVec.ofNat 32 (v : ℕ) := by
  have h : IntOp.cmpi .slt (BitVec.ofNat 32 (v : ℕ)) 0#32 = 0#1 := by fin_cases v <;> decide
  rw [h]
  rfl

/-- A word of the range, read as a signed number. -/
theorem toInt_word (v : Fin 4) : (BitVec.ofNat 32 (v : ℕ)).toInt = ((v : ℕ) : ℤ) :=
  (by decide : ∀ u : Fin 4, (BitVec.ofNat 32 (u : ℕ)).toInt = ((u : ℕ) : ℤ)) v

end Cert.Lookup

end
-- ==== Proof.RefTable.lean ====
/- What the reference computes before its products and its padding: for every batch, row and column, the sum of five table entries. -/
module

public import proofs.«01_k».proof.Proof.Gen.ReferenceIdeal.Run
public import proofs.«01_k».proof.Proof.Lookup
public import proofs.«01_k».proof.Proof.Tables
public import Idealize.ShloMosaic.Lib.Pointwise
public import Idealize.ShloMosaic.Lib.Tactic.CleanTypes

@[expose] public section

set_option maxRecDepth 16384

noncomputable section

namespace Cert.ReferenceIdeal.TableSum

open Cert.ReferenceIdeal Cert.ReferenceIdeal.Gen Cert.ReferenceIdeal.Value Cert.Tables Cert.Lookup Idealize.ShloMosaic
open Idealize.ShloMosaic.StableHlo

variable (V0 : Valuation τ sig (Elt Ideal))

/-- The categorical words. -/
abbrev argX : IVec S4096x200x5 32 := V0 (Proc.tc.devRef main_arg0)

variable (v : Fin 4096 → Fin 200 → Fin 5 → Fin 4)

/-- The row number of the minute lookup: the word of the last field. -/
theorem rows0 (hv : ∀ n l j, argX V0 (ix3 n l j) = BitVec.ofNat 32 (v n l j)) (n : Fin 4096) (l : Fin 200) :
    (res_main_call0_v5 V0 : IVec S4096x200x1 32) (ix3 n l 0) = BitVec.ofNat 32 (v n l 4) := by
  unfold res_main_call0_v5 res_main_v1
  clean_types
  pointwise
  rw [show V0 (Proc.tc.devRef main_arg0) (ix3 n l 4) = BitVec.ofNat 32 (v n l 4) from hv n l 4]
  exact wrap_word _ _

/-- The row number of the hour lookup: the word of field 3. -/
theorem rows1 (hv : ∀ n l j, argX V0 (ix3 n l j) = BitVec.ofNat 32 (v n l j)) (n : Fin 4096) (l : Fin 200) :
    (res_main_call1_v5 V0 : IVec S4096x200x1 32) (ix3 n l 0) = BitVec.ofNat 32 (v n l 3) := by
  unfold res_main_call1_v5 res_main_v4
  clean_types
  pointwise
  rw [show V0 (Proc.tc.devRef main_arg0) (ix3 n l 3) = BitVec.ofNat 32 (v n l 3) from hv n l 3]
  exact wrap_word _ _

/-- The row number of the weekday lookup: the word of field 2. -/
theorem rows2 (hv : ∀ n l j, argX V0 (ix3 n l j) = BitVec.ofNat 32 (v n l j)) (n : Fin 4096) (l : Fin 200) :
    (res_main_call2_v5 V0 : IVec S4096x200x1 32) (ix3 n l 0) = BitVec.ofNat 32 (v n l 2) := by
  unfold res_main_call2_v5 res_main_v7
  clean_types
  pointwise
  rw [show V0 (Proc.tc.devRef main_arg0) (ix3 n l 2) = BitVec.ofNat 32 (v n l 2) from hv n l 2]
  exact wrap_word _ _

/-- The row number of the day lookup: the word of field 1. -/
theorem rows3 (hv : ∀ n l j, argX V0 (ix3 n l j) = BitVec.ofNat 32 (v n l j)) (n : Fin 4096) (l : Fin 200) :
    (res_main_call3_v5 V0 : IVec S4096x200x1 32) (ix3 n l 0) = BitVec.ofNat 32 (v n l 1) := by
  unfold res_main_call3_v5 res_main_v10
  clean_types
  pointwise
  rw [show V0 (Proc.tc.devRef main_arg0) (ix3 n l 1) = BitVec.ofNat 32 (v n l 1) from hv n l 1]
  exact wrap_word _ _

/-- The row number of the month lookup: the word of field 0. -/
theorem rows4 (hv : ∀ n l j, argX V0 (ix3 n l j) = BitVec.ofNat 32 (v n l j)) (n : Fin 4096) (l : Fin 200) :
    (res_main_call4_v5 V0 : IVec S4096x200x1 32) (ix3 n l 0) = BitVec.ofNat 32 (v n l 0) := by
  unfold res_main_call4_v5 res_main_v13
  clean_types
  pointwise
  rw [show V0 (Proc.tc.devRef main_arg0) (ix3 n l 0) = BitVec.ofNat 32 (v n l 0) from hv n l 0]
  exact wrap_word _ _

/-- A lookup's result at an index: the common table's entry, the table's row `k` being its word's row of words `lit`. -/
theorem lookup_word {N : ℕ}
    (wf : GatherDims.WF ⟨2, ![N, 64]⟩ ⟨3, ![4096, 200, 1]⟩ ⟨3, ![4096, 200, 64]⟩ [2] [0] [] [0] [] 2 ![1, 64])
    (T : FVec Ideal ⟨2, ![N, 64]⟩ .f32) (rows : IVec ⟨3, ![4096, 200, 1]⟩ 32) (n : Fin 4096) (l : Fin 200) (d : Fin 64)
    (q : Fin 4) (u : BitVec 32) (hN : 4 ≤ N) (hrow : rows (ix3 n l 0) = BitVec.ofNat 32 q)
    (hu : ∀ q : Fin 4, IntOp.cmpi .sle (BitVec.ofNat 32 (q : ℕ)) u = 1#1)
    (hT : T (ix2 ⟨q, by omega⟩ d) = (tab q ⟨d + 1, by omega⟩ : EReal)) (p : EReal) :
    Scalar.select (Finset.fold IntOp.andi (1#1) (fun x : Fin 1 => IntOp.andi (IntOp.cmpi .sge (rows (ix3 n l x)) 0#32)
      (IntOp.cmpi .sle (rows (ix3 n l x)) u)) Finset.univ) (Host.gather (rowDims N wf) T rows (ix3 n l d) : EReal) p
      = (tab q ⟨d + 1, by omega⟩ : EReal) := by
  rw [select_row rows n l q u hrow (hu q), gather_row wf T rows n l d ⟨q, by omega⟩ (by rw [hrow, toInt_word]), hT]

/-- A table's row number and column, spelt as the place of its word. -/
theorem place {N : ℕ} (k : Fin N) (d : Fin 64) : ((⟨2, ![N, 64]⟩ : Shape).rowMajor (ix2 k d) : ℕ) = 64 * k + d := by
  rw [rowMajor_val2 _ 64 rfl]
  show (k : ℕ) * 64 + d = _
  omega

/-- The five table entries of a row of words, at a column before the padding. -/
def five (w : Fin 5 → Fin 4) (c : Fin 66) : ℝ := ∑ j : Fin 5, tab (w j) c

set_option maxHeartbeats 4000000 in
/-- The sum of the five lookups at an index. -/
theorem sum_apply (hv : ∀ n l j, argX V0 (ix3 n l j) = BitVec.ofNat 32 (v n l j)) (n : Fin 4096) (l : Fin 200) (d : Fin 64) :
    (res_main_v18 V0 : FVec Ideal S4096x200x64 .f32) (ix3 n l d) = (five (v n l) ⟨d + 1, by omega⟩ : EReal) := by
  have e1 := lookup_word gather_S24x64_S4096x200x1_S4096x200x64_2_0_n_n_0_2_164_wf
    (fun i => Ideal.ofBits .f32 (lit1 (S24x64.rowMajor i))) (res_main_call1_v5 V0) n l d (v n l 3) 23#32 (by decide)
    (rows1 V0 v hv n l) (by decide)
    (by rw [← tab_eq, ← ref1]; exact congrArg (fun k => Ideal.ofBits .f32 (lit1 k)) (Fin.ext (place _ d)))
    (Ideal.ofBits .f32 2143289344#32)
  have e2 := lookup_word gather_S7x64_S4096x200x1_S4096x200x64_2_0_n_n_0_2_164_wf
    (fun i => Ideal.ofBits .f32 (lit2 (S7x64.rowMajor i))) (res_main_call2_v5 V0) n l d (v n l 2) 6#32 (by decide)
    (rows2 V0 v hv n l) (by decide)
    (by rw [← tab_eq, ← ref2]; exact congrArg (fun k => Ideal.ofBits .f32 (lit2 k)) (Fin.ext (place _ d)))
    (Ideal.ofBits .f32 2143289344#32)
  have e3 := lookup_word gather_S32x64_S4096x200x1_S4096x200x64_2_0_n_n_0_2_164_wf
    (fun i => Ideal.ofBits .f32 (lit3 (S32x64.rowMajor i))) (res_main_call3_v5 V0) n l d (v n l 1) 31#32 (by decide)
    (rows3 V0 v hv n l) (by decide)
    (by rw [← tab_eq, ← ref3]; exact congrArg (fun k => Ideal.ofBits .f32 (lit3 k)) (Fin.ext (place _ d)))
    (Ideal.ofBits .f32 2143289344#32)
  have e4 := lookup_word gather_S13x64_S4096x200x1_S4096x200x64_2_0_n_n_0_2_164_wf
    (fun i => Ideal.ofBits .f32 (lit4 (S13x64.rowMajor i))) (res_main_call4_v5 V0) n l d (v n l 0) 12#32 (by decide)
    (rows4 V0 v hv n l) (by decide)
    (by rw [← tab_eq, ← ref4]; exact congrArg (fun k => Ideal.ofBits .f32 (lit4 k)) (Fin.ext (place _ d)))
    (Ideal.ofBits .f32 2143289344#32)
  have e0 := lookup_word gather_S4x64_S4096x200x1_S4096x200x64_2_0_n_n_0_2_164_wf
    (fun i => Ideal.ofBits .f32 (lit0 (S4x64.rowMajor i))) (res_main_call0_v5 V0) n l d (v n l 4) 3#32 (by decide)
    (rows0 V0 v hv n l) (by decide)
    (by rw [← tab_eq, ← ref0]; exact congrArg (fun k => Ideal.ofBits .f32 (lit0 k)) (Fin.ext (place _ d)))
    (Ideal.ofBits .f32 2143289344#32)
  have hf : (five (v n l) ⟨d + 1, by omega⟩ : EReal)
      = (tab (v n l 3) ⟨d + 1, by omega⟩ : EReal) + (tab (v n l 2) ⟨d + 1, by omega⟩ : EReal)
        + (tab (v n l 1) ⟨d + 1, by omega⟩ : EReal) + (tab (v n l 0) ⟨d + 1, by omega⟩ : EReal)
        + (tab (v n l 4) ⟨d + 1, by omega⟩ : EReal) := by
    rw [← EReal.coe_add, ← EReal.coe_add, ← EReal.coe_add, ← EReal.coe_add, five, Fin.sum_univ_five]
    exact congrArg _ (by ring)
  rw [hf]
  unfold res_main_v18
  clean_types
  pointwise
  exact congrArg₂ (· + ·) (congrArg₂ (· + ·) (congrArg₂ (· + ·) (congrArg₂ (· + ·) e1 e2) e3) e4) e0

end Cert.ReferenceIdeal.TableSum

end
-- ==== Proof.RefPad.lean ====
/- The reference's sum of five table entries with its padding by one column on either side. -/
module

public import proofs.«01_k».proof.Proof.RefTable
public import Idealize.ShloMosaic.Lib.Pointwise
public import Idealize.ShloMosaic.Lib.Tactic.CleanTypes

@[expose] public section

set_option maxRecDepth 16384

noncomputable section

namespace Cert.ReferenceIdeal.TableSum

open Cert.ReferenceIdeal Cert.ReferenceIdeal.Gen Cert.ReferenceIdeal.Value Cert.Tables Cert.Lookup Idealize.ShloMosaic
open Idealize.ShloMosaic.StableHlo

variable (V0 : Valuation τ sig (Elt Ideal))

variable (v : Fin 4096 → Fin 200 → Fin 5 → Fin 4)

/-- The table's padding on the left: column 0 is column 64. -/
theorem tab_left (q : Fin 4) : tab q 0 = tab q 64 := by
  have h := tab_eq q 0
  rw [word_left, tab_eq] at h
  exact EReal.coe_injective h.symm

/-- The table's padding on the right: column 65 is column 1. -/
theorem tab_right (q : Fin 4) : tab q 65 = tab q 1 := by
  have h := tab_eq q 65
  rw [word_right, tab_eq] at h
  exact EReal.coe_injective h.symm

set_option maxHeartbeats 4000000 in
/-- The padded sum of the five lookups at an index. -/
theorem padded_apply (hv : ∀ n l j, argX V0 (ix3 n l j) = BitVec.ofNat 32 (v n l j)) (n : Fin 4096) (l : Fin 200) (c : Fin 66) :
    (res_main_v21 V0 : FVec Ideal S4096x200x66 .f32) (ix3 n l c) = (five (v n l) c : EReal) := by
  unfold res_main_v21
  clean_types
  pointwise
  by_cases h1 : (c : ℕ) < 1
  · refine (dif_pos h1).trans ((sum_apply V0 v hv n l _).trans (congrArg _ ?_))
    obtain rfl : c = 0 := Fin.ext (by show (c : ℕ) = 0; omega)
    exact Finset.sum_congr rfl fun j _ => (tab_left _).symm
  · refine (dif_neg h1).trans ?_
    by_cases h2 : (c : ℕ) - 1 < 64
    · refine (dif_pos h2).trans ((sum_apply V0 v hv n l _).trans (congrArg _ (congrArg _ (Fin.ext ?_))))
      show (c : ℕ) - 1 + 1 = c
      omega
    · refine (dif_neg h2).trans ((sum_apply V0 v hv n l _).trans (congrArg _ ?_))
      obtain rfl : c = 65 := Fin.ext (by show (c : ℕ) = 65; omega)
      exact Finset.sum_congr rfl fun j _ => (tab_right _).symm

end Cert.ReferenceIdeal.TableSum

end
-- ==== Proof.RefValue.lean ====
/- The reference's result at a batch, a filter and a column. -/
module

public import proofs.«01_k».proof.Proof.RefPad
public import Idealize.ShloMosaic.Lib.Claim

@[expose] public section

set_option maxRecDepth 16384

noncomputable section

namespace Cert.ReferenceIdeal.Result

open Cert.ReferenceIdeal Cert.ReferenceIdeal.Gen Cert.ReferenceIdeal.Value Cert.ReferenceIdeal.TableSum Cert.Tables Idealize.ShloMosaic
open Idealize.ShloMosaic.StableHlo

/-- The reference's result at a batch, a filter and a column, as a function of the words, the weights and the bias. -/
def outE (v : Fin 4096 → Fin 200 → Fin 5 → Fin 4) (w : FVec Ideal S16x200x3 .f32) (b : FVec Ideal S16 .f32)
    (n : Fin 4096) (f : Fin 16) (d : Fin 64) : EReal :=
  (∑ l : Fin 200, (five (v n l) ⟨d, by omega⟩ : EReal) * (w (ix3 f l 0) : EReal))
    + (∑ l : Fin 200, (five (v n l) ⟨1 + d, by omega⟩ : EReal) * (w (ix3 f l 1) : EReal))
    + (∑ l : Fin 200, (five (v n l) ⟨2 + d, by omega⟩ : EReal) * (w (ix3 f l 2) : EReal))
    + (b (ix1 f) : EReal)

/-- The reference's composed term of a padded sum, weights and a bias. -/
def out (s : FVec Ideal S4096x200x66 .f32) (w : FVec Ideal S16x200x3 .f32) (b : FVec Ideal S16 .f32) : FVec Ideal S4096x16x64 .f32 :=
  addf (addf (addf (transpose S4096x16x64 [0, 2, 1] (Host.dotGeneral dot_S4096x200x64_S16x200_S4096x64x16_1_1_02_0_n_n none (extractStridedSlice S4096x200x64 ![0, 0, 0] s slices_S4096x200x66_S4096x200x64_0_0_0) (shapeCast _ (extractStridedSlice S16x200x1 ![0, 0, 0] w slices_S16x200x3_S16x200x1_0_0_0) shapeCasts_S16x200x1_S16x200)) transposes_S4096x64x16_S4096x16x64_0_2_1)
      (transpose S4096x16x64 [0, 2, 1] (Host.dotGeneral dot_S4096x200x64_S16x200_S4096x64x16_1_1_02_0_n_n none (extractStridedSlice S4096x200x64 ![0, 0, 1] s slices_S4096x200x66_S4096x200x64_0_0_1) (shapeCast _ (extractStridedSlice S16x200x1 ![0, 0, 1] w slices_S16x200x3_S16x200x1_0_0_1) shapeCasts_S16x200x1_S16x200)) transposes_S4096x64x16_S4096x16x64_0_2_1))
      (transpose S4096x16x64 [0, 2, 1] (Host.dotGeneral dot_S4096x200x64_S16x200_S4096x64x16_1_1_02_0_n_n none (extractStridedSlice S4096x200x64 ![0, 0, 2] s slices_S4096x200x66_S4096x200x64_0_0_2) (shapeCast _ (extractStridedSlice S16x200x1 ![0, 0, 2] w slices_S16x200x3_S16x200x1_0_0_2) shapeCasts_S16x200x1_S16x200)) transposes_S4096x64x16_S4096x16x64_0_2_1))
    (broadcastInDim S4096x16x64 ![0, 1, 2] bcast_S1x16x1_S4096x16x64_0_1_2 (broadcastInDim S1x16x1 ![1] bcast_S16_S1x16x1_1 b))

/-- The composed term read at a batch, a filter and a column. -/
theorem out_apply (v : Fin 4096 → Fin 200 → Fin 5 → Fin 4) (s : FVec Ideal S4096x200x66 .f32) (w : FVec Ideal S16x200x3 .f32) (b : FVec Ideal S16 .f32)
    (hs : ∀ n l c, s (ix3 n l c) = (five (v n l) c : EReal)) (n : Fin 4096) (f : Fin 16) (d : Fin 64) :
    out s w b (ix3 n f d) = outE v w b n f d := by
  unfold out outE
  simp only [← hs]
  pointwise

end Cert.ReferenceIdeal.Result

end
-- ==== Proof.Equation.lean ====
/- The kernel's result and the reference's are one function of the words, the weights and the bias, the weights being finite. -/
module

public import proofs.«01_k».proof.Proof.Array
public import proofs.«01_k».proof.Proof.RefValue

@[expose] public section

noncomputable section

namespace Cert.Equation

open Cert.Tables Cert.KernelIdeal.HostValue Cert.KernelIdeal.Poly Cert.ReferenceIdeal.TableSum Idealize.ShloMosaic

/-- One tap: the weighted sum of the kernel's entries and the tap's share of the bias are the weighted sum of the reference's. -/
theorem tap (r : Fin 200 → ℝ) (u : Fin 200 → Fin 5 → Fin 4) (c : Fin 66) :
    (∑ l, r l * row (u l) c) + (∑ l, r l) * (5 * coef 0 c) = ∑ l, five (u l) c * r l := by
  rw [Finset.sum_mul, ← Finset.sum_add_distrib]
  refine Finset.sum_congr rfl fun l _ => ?_
  show r l * (five (u l) c - 5 * coef 0 c) + r l * (5 * coef 0 c) = five (u l) c * r l
  ring

/-- The two results agree. -/
theorem equal (v : Fin 4096 → Fin 200 → Fin 5 → Fin 4) (w : FVec Ideal Cert.KernelIdeal.S16x200x3 .f32) (b : FVec Ideal Cert.KernelIdeal.S16 .f32)
    (hw : ∀ f l k, ∃ r : ℝ, (w (ix3 f l k) : EReal) = (r : EReal)) (n : Fin 4096) (f : Fin 16) (d : Fin 64) :
    Cert.KernelIdeal.Array.outE v w b n f d = Cert.ReferenceIdeal.Result.outE v w b n f d := by
  choose r hr using hw
  unfold Cert.KernelIdeal.Array.outE Cert.ReferenceIdeal.Result.outE Cert.KernelIdeal.Array.shift
  simp only [hr, ← EReal.coe_mul, ← coe_sum, ← EReal.coe_add]
  rw [add_comm (b (ix1 f) : EReal), ← add_assoc, ← EReal.coe_add]
  refine congrArg (· + (b (ix1 f) : EReal)) (congrArg _ ?_)
  rw [← tap, ← tap, ← tap]
  ring

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Range
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The side conditions that the precondition's text states. -/
theorem preFacts : Cert.Pre_in_range.Facts := ⟨by decide, by decide⟩

/-- The reference ends with its arguments unchanged and every semaphore counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩)
    (Cert.ReferenceIdeal.Value.run m g)

/-- From memories that agree on the arguments and meet the precondition, the kernel and the reference end with equal results. -/
theorem algebraic : Cert.algebraic_KernelIdeal_ReferenceIdeal_pre_in_range (hKernelIdeal := Cert.KernelIdeal.Gen.facts)
    (hReferenceIdeal := Cert.ReferenceIdeal.Gen.facts) (hPre_in_range := preFacts) := by
  intro m g m' g' hpre hargs
  haveI := preFacts
  have hv := fun c n l j => Cert.Range.words _ _ _ (hpre c).1 n l j
  choose v hv using hv
  have hw := fun c f l k => Cert.Range.weights _ _ _ (hpre c).2 f l k
  refine ⟨fun c => (fun i : Cert.KernelIdeal.S4096x16x64.Idx => Cert.KernelIdeal.Array.outE (v c)
    (Cert.KernelIdeal.HostValue.argW m c) (Cert.KernelIdeal.HostValue.argB m c) (i 0) (i 1) (i 2)), ?_, ?_⟩
  · refine (θ_run _ _ _).mono (fun r h c => ⟨(h c).1.trans ?_, (h c).2⟩) (Cert.KernelIdeal.Value.run_blocks m g)
    exact Cert.KernelIdeal.Array.final m (v c) c (hv c)
  · refine (θ_run _ _ _).mono (fun r h c => ⟨(h c).1.trans ?_, (h c).2⟩) (Cert.ReferenceIdeal.Value.run m' g')
    obtain ⟨h0, h1, h2⟩ := hargs c
    have hx : ∀ n l j, Cert.ReferenceIdeal.TableSum.argX (StableHlo.launchContents m' c) (ix3 n l j) = BitVec.ofNat 32 (v c n l j) :=
      fun n l j => (congrFun h0 (ix3 n l j)).trans (hv c n l j)
    funext i
    rw [eq_ix3 i]
    refine (Cert.ReferenceIdeal.Result.out_apply (v c) (Cert.ReferenceIdeal.Value.res_main_v21 (StableHlo.launchContents m' c))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (Cert.ReferenceIdeal.TableSum.padded_apply _ (v c) hx) (i 0) (i 1) (i 2)).trans ?_
    rw [h1, h2]
    exact (Cert.Equation.equal (v c) _ _ (hw c) (i 0) (i 1) (i 2)).symm

theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    trivial,
    algebraic⟩

end Cert.Proof

end
